-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x1024 : Shape := ⟨2, ![8192, 1024]⟩
abbrev S4x8192x1024 : Shape := ⟨3, ![4, 8192, 1024]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .f32⟩
  | .local _ .vmem, ⟨3, _⟩ => ⟨S4x512x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x8192 : Shape := ⟨2, ![4, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩
abbrev S4x8192x1024 : Shape := ⟨3, ![4, 8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x1024, .f32⟩
  | .hbm, ⟨25, _⟩ => ⟨S8192x1024, .i1⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S1x8192x1024, .f32⟩
  | .hbm, ⟨30, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Table.lean ====
/-
  What both programs compute, as one function of the table (`Table.copies`), and the proof that the reference's
  operations compute it.

  The reference builds the row numbers 0, …, 8191, wraps the negative ones (there is none), gathers the rows, replaces
  the rows of numbers outside [0, 8191] by NaN (there is none) and broadcasts the rows over the batch. So result
  element (b, p, e) is table element (p, e). Nothing here depends on what a float is.
-/
module

public import Idealize.ShloMosaic.Lib.Pipeline.Value
public import Idealize.ShloMosaic.Lib.ValueIdxCore
public import Idealize.ShloMosaic.Lib.ReduceAll

@[expose] public section

noncomputable section

namespace Cert.Table

open Idealize.ShloMosaic Idealize.ShloMosaic.ValueIdx

/-! ## The result as a function of the table -/

/-- The table, once for every batch element: element (b, p, e) is table element (p, e). -/
def copies {α : Type} (w : (⟨2, ![8192, 1024]⟩ : Shape).Idx → α) : (⟨3, ![4, 8192, 1024]⟩ : Shape).Idx → α :=
  fun i => w (ix2 (i 1) (i 2))

/-! ## Gathering whole rows -/

/-- The dimension numbers of a gather of whole rows: operand `[N, C]`, row numbers `[R, 1]`, result `[R, C]`. -/
abbrev wholeRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Element (p, e) of a gather of whole rows is element e of the operand's row `k`, where `k` is the p-th row number
    read as a signed integer and clamped into the operand. -/
theorem gather_wholeRows {α : Type} {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (rows : IVec ⟨2, ![R, 1]⟩ w) (p : Fin R) (e : Fin C) (k : Fin N)
    (hk : k.val = min (rows (ix2 p 0)).toInt.toNat (N - 1)) :
    Host.gather (wholeRows N R C wf) x rows (ix2 p e) = x (ix2 k e) := by
  unfold Host.gather
  refine congrArg x (Shape.idx_ext₂ ?_ ?_)
  · show (wholeRows N R C wf).start (ix2 p e) rows 0 + (wholeRows N R C wf).batchCoord (ix2 p e) 0
        + (wholeRows N R C wf).offCoord (ix2 p e) 0 = k.val
    have hmem : (0 : Fin 2) ∈ (wholeRows N R C wf).startIndexMap := List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos hmem]
    have hat : (wholeRows N R C wf).siIdx (ix2 p e) ⟨List.idxOf (0 : Fin 2) (wholeRows N R C wf).startIndexMap,
        List.idxOf_lt_length_iff.2 hmem⟩ = ix2 p 0 := Shape.idx_ext₂ rfl rfl
    rw [hat]
    exact hk.symm
  · show (wholeRows N R C wf).start (ix2 p e) rows 1 + (wholeRows N R C wf).batchCoord (ix2 p e) 1
        + (wholeRows N R C wf).offCoord (ix2 p e) 1 = e.val
    have hmem : (1 : Fin 2) ∉ (wholeRows N R C wf).startIndexMap := by
      show (1 : Fin 2) ∉ ([0] : List (Fin 2))
      decide
    rw [GatherDims.batchCoord_eq_zero _ _ _ List.not_mem_nil]
    unfold GatherDims.start
    rw [dif_neg hmem]
    unfold GatherDims.offCoord
    rw [dif_pos ((GatherDims.mem_sKept _ _).mpr ⟨show (1 : Fin 2) ∉ ([0] : List (Fin 2)) by decide, List.not_mem_nil⟩)]
    simp only [Nat.zero_add]
    rfl

/-! ## The row numbers -/

/-- A row number below 8192 is itself as a signed integer. -/
theorem toInt_row (n : Nat) (hn : n < 8192) : (BitVec.ofNat 32 n).toInt = n := by
  rw [BitVec.toInt_ofNat', Int.bmod_eq_of_le (by omega) (by omega)]

/-- A row number below 8192 is not negative, so it is not wrapped: the reference's `where(n < 0, n + 8192, n)` is `n`. -/
theorem wrap_row (n : Nat) (hn : n < 8192) :
    Scalar.select (IntOp.cmpi .slt (IntOp.addi 0#32 (BitVec.ofNat 32 n)) 0#32)
      (IntOp.addi (IntOp.addi 0#32 (BitVec.ofNat 32 n)) 8192#32) (IntOp.addi 0#32 (BitVec.ofNat 32 n)) = BitVec.ofNat 32 n := by
  have h0 : IntOp.addi 0#32 (BitVec.ofNat 32 n) = BitVec.ofNat 32 n := BitVec.zero_add _
  rw [h0, eq_zero_of_ne_one (b := IntOp.cmpi .slt (BitVec.ofNat 32 n) 0#32), select_zero]
  rw [IntOp.cmpi_slt, toInt_row n hn]
  simp

/-- A row number below 8192 is inside the table: both of the reference's comparisons hold. -/
theorem row_inside (n : Nat) (hn : n < 8192) :
    IntOp.andi (IntOp.cmpi .sge (BitVec.ofNat 32 n) 0#32) (IntOp.cmpi .sle (BitVec.ofNat 32 n) 8191#32) = 1#1 := by
  rw [IntOp.andi_eq_one, IntOp.cmpi_sge, IntOp.cmpi_sle, toInt_row n hn]
  exact ⟨by simp, by show (n : Int) ≤ 8191; omega⟩

/-! ## The reference's operations -/

section Reference

variable {F : FTy → Type} [FloatOps F]

/-- The shapes of the reference's values. -/
abbrev T0 : Shape := ⟨0, ![]⟩
abbrev T1 : Shape := ⟨1, ![1]⟩
abbrev T11 : Shape := ⟨2, ![1, 1]⟩
abbrev TRows : Shape := ⟨1, ![8192]⟩
abbrev TCol : Shape := ⟨2, ![8192, 1]⟩
abbrev TTab : Shape := ⟨2, ![8192, 1024]⟩
abbrev TOne : Shape := ⟨3, ![1, 8192, 1024]⟩
abbrev TOut : Shape := ⟨3, ![4, 8192, 1024]⟩

variable (b0 : T0.BroadcastsInDim TRows (![] : Fin 0 → Fin TRows.rank))
  (b1 : TRows.BroadcastsInDim TCol (![0] : Fin 1 → Fin TCol.rank))
  (b2 : T0.BroadcastsInDim TCol (![] : Fin 0 → Fin TCol.rank))
  (b3 : T1.BroadcastsInDim T11 (![1] : Fin 1 → Fin T11.rank))
  (b4 : T11.BroadcastsInDim TCol (![0, 1] : Fin 2 → Fin TCol.rank))
  (b5 : TRows.BroadcastsInDim TTab (![0] : Fin 1 → Fin TTab.rank))
  (b6 : T0.BroadcastsInDim TTab (![] : Fin 0 → Fin TTab.rank))
  (b7 : TTab.BroadcastsInDim TOne (![1, 2] : Fin 2 → Fin TOne.rank))
  (b8 : TOne.BroadcastsInDim TOut (![0, 1, 2] : Fin 3 → Fin TOut.rank))
  (hr : TCol.ReducesTo [1] TRows) (hu : 0 < T0.numel)
  (wf : GatherDims.WF TTab TCol TTab [1] [0] [] [0] [] 1 ![1, 1024])

/-- The positions 0 + (0, …, 8191). -/
abbrev positions : IVec TRows 32 := addi (broadcastInDim TRows ![] b0 (constantI T0 32 0#32)) (iotaInDim TRows 32 0)

/-- The positions with the negative ones wrapped, as a column. -/
abbrev rowNumbers : IVec TCol 32 :=
  broadcastInDim TCol ![0] b1 (select (cmpi .slt (positions b0) (broadcastInDim TRows ![] b0 (constantI T0 32 0#32)))
    (addi (positions b0) (broadcastInDim TRows ![] b0 (constantI T0 32 8192#32))) (positions b0))

/-- Which row numbers are inside the table. -/
abbrev inside : IVec TRows 1 :=
  Host.reduce IntOp.andi (andi (cmpi .sge (rowNumbers b0 b1) (broadcastInDim TCol ![] b2 (constantI T0 32 0#32)))
    (cmpi .sle (rowNumbers b0 b1) (broadcastInDim TCol ![0, 1] b4 (broadcastInDim T11 ![1] b3 (constantI T1 32 8191#32)))))
    (constantI T0 1 1#1) hr hu

/-- The reference's result: the gathered rows, those outside replaced by NaN, over the batch. -/
abbrev taken (w : TTab.Idx → F .f32) : TOut.Idx → F .f32 :=
  broadcastInDim TOut ![0, 1, 2] b8 (broadcastInDim TOne ![1, 2] b7 (select (broadcastInDim TTab ![0] b5 (inside b0 b1 b2 b3 b4 hr hu))
    (Host.gather (wholeRows 8192 8192 1024 wf) w (rowNumbers b0 b1))
    (broadcastInDim TTab ![] b6 (constant T0 .f32 0x7FC00000#32))))

/-- The p-th row number is p. -/
theorem rowNumbers_apply (i : TCol.Idx) : rowNumbers b0 b1 i = BitVec.ofNat 32 (i 0).val :=
  (broadcastInDim_apply _ b1 _ i (ix1 ⟨(i 0).val, (i 0).isLt⟩) fun a => match a with | ⟨0, _⟩ => rfl).trans (wrap_row _ (i 0).isLt)

/-- Every row number is inside the table. -/
theorem inside_apply (j : TRows.Idx) : inside b0 b1 b2 b3 b4 hr hu j = 1#1 := by
  refine Host.reduce_andi_one _ _ hr hu j rfl fun i => ?_
  show IntOp.andi (IntOp.cmpi .sge (rowNumbers b0 b1 i) 0#32) (IntOp.cmpi .sle (rowNumbers b0 b1 i) 8191#32) = 1#1
  rw [rowNumbers_apply]
  exact row_inside _ (i 0).isLt

/-- The reference's operations compute the copies of the table. -/
theorem taken_eq (w : TTab.Idx → F .f32) : taken b0 b1 b2 b3 b4 b5 b6 b7 b8 hr hu wf w = copies w := by
  funext i
  refine (broadcastInDim_apply _ b8 _ i (ix3 0 (i 1) (i 2)) fun a =>
    match a with | ⟨0, _⟩ => rfl | ⟨1, _⟩ => rfl | ⟨2, _⟩ => rfl).trans ?_
  refine (broadcastInDim_apply _ b7 _ _ (ix2 (i 1) (i 2)) fun a => match a with | ⟨0, _⟩ => rfl | ⟨1, _⟩ => rfl).trans ?_
  have hin : broadcastInDim TTab ![0] b5 (inside b0 b1 b2 b3 b4 hr hu) (ix2 (i 1) (i 2)) = 1#1 := inside_apply ..
  rw [select_apply, hin, select_one]
  refine gather_wholeRows wf w _ (i 1) (i 2) (i 1) ?_
  have hi : (i 1).val < 8192 := (i 1).isLt
  rw [rowNumbers_apply, toInt_row _ hi]
  show (i 1).val = min (i 1).val 8191
  omega

end Reference

end Cert.Table

end
-- ==== Proof.Copied.lean ====
/-
  What the kernel's result array holds after the run: the copies of the table (`Table.copies`).

  Grid point t reads rows 512 t, …, 512 t + 511 of the table and writes them to the same rows of all four batch
  elements. So what it writes back is its block of the copies, and the sixteen blocks cover the array.
-/
module

public import proofs.«01_k».proof.Proof.Gen.Kernel.Value
public import proofs.«01_k».proof.Proof.Table

@[expose] public section

noncomputable section

namespace Cert.Kernel.Copied

open Cert.Kernel Cert.Kernel.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The copies of device `c`'s table. -/
abbrev want (c : Dev nD) : Buf (Elt F) ((c : Thread nD τ).loc main_v0) :=
  Table.copies (α := F .f32) (m ((c : Thread nD τ).loc main_arg1))

/-- Where the blocks of point `t` start: row 512 t of the table, and row 512 t of batch element 0 of the result. -/
theorem block_starts : ∀ t : Fin cfg0.N,
    (win0_0.index t 0 = t.val ∧ win0_0.index t 1 = 0) ∧ win0_1.index t 0 = 0 ∧ win0_1.index t 1 = t.val ∧ win0_1.index t 2 = 0 :=
  (by decide +kernel : ∀ t : Fin grid0.N,
    (win0_0.index t 0 = t.val ∧ win0_0.index t 1 = 0) ∧ win0_1.index t 0 = 0 ∧ win0_1.index t 1 = t.val ∧ win0_1.index t 2 = 0)

/-- What point `t` writes back is its block of the copies. -/
theorem flushed_eq (c : Dev nD) (t : Fin cfg0.N) :
    (dats m 0 c).flushed 1 t = (win0_1.blk t).view.read (Elt F) (want m c) := by
  rw [Value.flushed1]
  obtain ⟨⟨a0, a1⟩, r0, r1, r2⟩ := block_starts t
  funext y
  refine (Value.canon1_eq _ _).trans ?_
  rw [View.ld_unit_zero (funext fun a => by fin_cases a <;> rfl)]
  refine congrArg (m ((c : Thread nD τ).loc main_arg1)) (Shape.idx_ext₂ ?_ ?_)
  · show win0_0.index t 0 * 512 + 1 * (y 1).val = win0_1.index t 1 * 512 + 1 * (y 1).val
    rw [a0, r1]
  · show win0_0.index t 1 * 1024 + 1 * (y 2).val = win0_1.index t 2 * 1024 + 1 * (y 2).val
    rw [a1, r2]

/-- Element (b, p, e) of the result is in the block of point p / 512. -/
theorem cover (i : S4x8192x1024.Idx) :
    ∃ t : Fin cfg0.N, (cfg0.win 1).flush t = true ∧ i ∈ ((cfg0.win 1).blk t).view.set := by
  have h0 : (i 0).val < 4 := (i 0).isLt
  have h1 : (i 1).val < 8192 := (i 1).isLt
  have h2 : (i 2).val < 1024 := (i 2).isLt
  have hN : cfg0.N = 16 := N_0
  obtain ⟨t, ht⟩ : ∃ t : Fin cfg0.N, t.val = (i 1).val / 512 := ⟨⟨(i 1).val / 512, by omega⟩, rfl⟩
  refine ⟨t, flush0_1 t, ?_⟩
  obtain ⟨-, r0, r1, r2⟩ := block_starts t
  show i ∈ ((View.whole main_v0).slice (win0_1.rect t)).set
  rw [View.set_slice_whole, Rect.mem_set_unit]
  intro a
  match a with
  | ⟨0, _⟩ =>
    show win0_1.index t 0 * 4 ≤ (i 0).val ∧ (i 0).val < win0_1.index t 0 * 4 + 4
    rw [r0]; omega
  | ⟨1, _⟩ =>
    show win0_1.index t 1 * 512 ≤ (i 1).val ∧ (i 1).val < win0_1.index t 1 * 512 + 512
    rw [r1, ht]; omega
  | ⟨2, _⟩ =>
    show win0_1.index t 2 * 1024 ≤ (i 2).val ∧ (i 2).val < win0_1.index t 2 * 1024 + 1024
    rw [r2]; omega

/-- The result array ends holding the copies. -/
theorem final (c : Dev nD) : (dats m 0 c).arrAt 1 cfg0.N = want m c :=
  (dats m 0 c).arrAt_eq_of_cover 1 (want m c) (fun t _ => flushed_eq m c t) cover

/-- The run: the result array ends at the copies of the table, the arguments unchanged. -/
theorem run : θ_run defs (onTc (τ := τ) (main (F := F))) ⟨m, fun _ => 0, ρ⟩ fun r => ∀ c : Dev nD,
      r.2.mem ((c : Thread nD τ).loc main_v0) = want m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel.Copied

end
-- ==== Proof.CopiedIdeal.lean ====
/-
  The idealized kernel's run. No operation of the kernel was rewritten for the extended reals, so the idealized kernel
  is the kernel's own text: the two body tables are equal, the two programs are equal by definition, and the kernel's
  run (Proof/Copied.lean), which holds for any kind of float, is the idealized kernel's.
-/
module

public import proofs.«01_k».proof.Proof.Copied
public import proofs.«01_k».proof.Proof.Gen.KernelIdeal.Frame

@[expose] public section

noncomputable section

namespace Cert.KernelIdeal.Copied

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The two programs run the same kernel body under their one label. -/
theorem bodies_eq : defs₀ (F := F) = Cert.Kernel.defs₀ := by
  unfold defs₀ Cert.Kernel.defs₀
  refine congrArg Defs.onTc (funext fun ℓ => funext fun a => ?_)
  obtain rfl : ℓ = 0 := Subsingleton.elim _ _
  rfl

/-- So they have the same body table, the pipeline's included. -/
theorem defs_eq : defs (F := F) = Cert.Kernel.defs := congrArg (Pipeline.defs Cert.Kernel.pcfgs) bodies_eq

/-- The run: the result array ends at the copies of the table, the arguments unchanged. -/
theorem run : θ_run defs (onTc (τ := τ) (main (F := F))) ⟨m, fun _ => 0, ρ⟩ fun r => ∀ c : Dev nD,
      r.2.mem ((c : Thread nD τ).loc main_v0) = Table.copies (α := F .f32) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  rw [defs_eq]
  exact Cert.Kernel.Copied.run m ρ

end Cert.KernelIdeal.Copied

end
-- ==== Proof.lean ====
/-
  The proof of `Cert.Claim`.

  The frames of the two kernel programs are generated; the frames of the two reference programs are read off their
  runs, which use no semaphore. The value claims meet at `Table.copies`: Proof/Copied.lean has the kernel's result array
  there, Proof/Table.lean the term that the reference's run leaves. Both hold for any kind of float, so the same text
  gives the claim over the extended reals and the claim about the words. Proof/CopiedIdeal.lean carries the kernel's run
  over to the idealized kernel, which is the same text.
-/
module

public import proofs.«01_k».proof.Defs
public import proofs.«01_k».proof.Proof.Copied
public import proofs.«01_k».proof.Proof.CopiedIdeal
public import proofs.«01_k».proof.Proof.Gen.Reference.Run
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-! ## The frames of the references -/

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value claims -/

/-- Over the extended reals the kernel and the reference both end at the copies of the table. -/
theorem algebraic : Cert.algebraic_KernelIdeal_ReferenceIdeal := by
  intro m ρ m' ρ' _ hagree
  refine ⟨_, Cert.KernelIdeal.Copied.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [← (hagree c).2]
  exact Table.taken_eq (F := Ideal) _ _ _ _ _ _ _ _ _ _ _ _ _

/-- Word for word the kernel and the reference both end at the copies of the table. -/
theorem bitexact : Cert.bitexact_Kernel_Reference := by
  intro m ρ m' ρ' _ hagree
  refine ⟨_, Cert.Kernel.Copied.run (F := Bits) m ρ, ?_⟩
  refine (θ_run Cert.Reference.defs _ _).mono (fun _ h c => ⟨(h c).1.trans ?_, (h c).2⟩)
    (Cert.Reference.Value.run (F := Bits) m' ρ')
  unfold Cert.Kernel.Copied.want
  rw [← (hagree c).2]
  exact Table.taken_eq (F := Bits) _ _ _ _ _ _ _ _ _ _ _ _ _

/-! ## The certificate -/

theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, frame_reference, frame_referenceIdeal,
    trivial, algebraic, bitexact⟩

end Cert.Proof

end
